-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_image_and_root [hPre_finite_image_and_root : Cert.Pre_finite_image_and_root.Facts] (m : (ℓ : Loc Cert.KernelIdeal.nD Cert.KernelIdeal.τ Cert.KernelIdeal.sig) → Buf (Elt Ideal) ℓ) : Prop :=
  ∀ c : Dev Cert.KernelIdeal.nD,
    (Cert.Pre_finite_image_and_root.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_image_and_root [hPre_finite_image_and_root : Cert.Pre_finite_image_and_root.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_image_and_root.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_image_and_root [hKernelIdeal : Cert.KernelIdeal.Facts] [hPre_finite_image_and_root : Cert.Pre_finite_image_and_root.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_image_and_root m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_image_and_root [hReferenceIdeal : Cert.ReferenceIdeal.Facts] [hPre_finite_image_and_root : Cert.Pre_finite_image_and_root.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_image_and_root m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_image_and_root [hKernelIdeal : Cert.KernelIdeal.Facts] [hReferenceIdeal : Cert.ReferenceIdeal.Facts] [hPre_finite_image_and_root : Cert.Pre_finite_image_and_root.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_image_and_root m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_image_and_root : Cert.Pre_finite_image_and_root.Facts),
    quiescent_Kernel (hKernel := hKernel)
    ∧ quiescent_KernelIdeal (hKernelIdeal := hKernelIdeal)
    ∧ quiescent_KernelIdeal_pre_finite_image_and_root (hKernelIdeal := hKernelIdeal) (hPre_finite_image_and_root := hPre_finite_image_and_root)
    ∧ quiescent_ReferenceIdeal (hReferenceIdeal := hReferenceIdeal)
    ∧ quiescent_ReferenceIdeal_pre_finite_image_and_root (hReferenceIdeal := hReferenceIdeal) (hPre_finite_image_and_root := hPre_finite_image_and_root)
    ∧ preserves_Kernel_KernelIdeal
    ∧ algebraic_KernelIdeal_ReferenceIdeal_pre_finite_image_and_root (hKernelIdeal := hKernelIdeal) (hReferenceIdeal := hReferenceIdeal) (hPre_finite_image_and_root := hPre_finite_image_and_root)
-- ==== Pre_finite_image_and_root.lean ====
abbrev S32x3x64x64 : Shape := ⟨4, ![32, 3, 64, 64]⟩
abbrev S21x896 : Shape := ⟨2, ![21, 896]⟩
abbrev S896 : Shape := ⟨1, ![896]⟩
abbrev S128x1000 : Shape := ⟨2, ![128, 1000]⟩
abbrev S1000 : Shape := ⟨1, ![1000]⟩
abbrev S393216 : Shape := ⟨1, ![393216]⟩
abbrev S_ : Shape := ⟨0, ![]⟩
abbrev S21x128 : Shape := ⟨2, ![21, 128]⟩
abbrev S2688 : Shape := ⟨1, ![2688]⟩
abbrev S395904 : Shape := ⟨1, ![395904]⟩

class Facts : Prop where
  shapeCasts_S32x3x64x64_S393216 : S32x3x64x64.ShapeCasts S393216
  bcast_S_S393216 : S_.BroadcastsInDim S393216 (![] : Fin 0 → Fin S393216.rank)
  slices_S21x896_S21x128_0_768 : S21x896.Slices ![0, 768] S21x128
  shapeCasts_S21x128_S2688 : S21x128.ShapeCasts S2688
  bcast_S_S2688 : S_.BroadcastsInDim S2688 (![] : Fin 0 → Fin S2688.rank)
  concatenates_S393216_S2688_S395904_d0 : Shape.Concatenates [S393216, S2688] S395904 0

variable [Facts]

def fn {F : FTy → Type} [FloatOps F] (main_arg0 : FVec F S32x3x64x64 .f32) (main_arg1 : FVec F S21x896 .f32) (main_arg2 : FVec F S896 .f32) (main_arg3 : FVec F S128x1000 .f32) (main_arg4 : FVec F S1000 .f32) : IVec S395904 1 :=
  let main_v0 : FVec F S32x3x64x64 .f32 := Host.absf main_arg0
  let main_v1 : FVec F S393216 .f32 := shapeCast S393216 main_v0 shapeCasts_S32x3x64x64_S393216
  let main_cst : FVec F S_ .f32 := constant S_ .f32 0x7F800000#32
  let main_v2 : FVec F S393216 .f32 := broadcastInDim S393216 ![] bcast_S_S393216 main_cst
  let main_v3 : IVec S393216 1 := cmpf .olt main_v1 main_v2
  let main_v4 : FVec F S21x128 .f32 := (extractStridedSlice S21x128 ![0, 768] · slices_S21x896_S21x128_0_768) main_arg1
  let main_v5 : FVec F S21x128 .f32 := Host.absf main_v4
  let main_v6 : FVec F S2688 .f32 := shapeCast S2688 main_v5 shapeCasts_S21x128_S2688
  let main_cst_0 : FVec F S_ .f32 := constant S_ .f32 0x7F800000#32
  let main_v7 : FVec F S2688 .f32 := broadcastInDim S2688 ![] bcast_S_S2688 main_cst_0
  let main_v8 : IVec S2688 1 := cmpf .olt main_v6 main_v7
  let main_v9 : IVec S395904 1 := (fun a b => concatenate S395904 0 [⟨S393216, a⟩, ⟨S2688, b⟩] concatenates_S393216_S2688_S395904_d0) main_v3 main_v8
  main_v9
-- ==== Kernel.lean ====
abbrev S32x3x64x64 : Shape := ⟨4, ![32, 3, 64, 64]⟩
abbrev S21x896 : Shape := ⟨2, ![21, 896]⟩
abbrev S896 : Shape := ⟨1, ![896]⟩
abbrev S128x1000 : Shape := ⟨2, ![128, 1000]⟩
abbrev S1000 : Shape := ⟨1, ![1000]⟩
abbrev S32x12288 : Shape := ⟨2, ![32, 12288]⟩
abbrev S1x896 : Shape := ⟨2, ![1, 896]⟩
abbrev S1x1000 : Shape := ⟨2, ![1, 1000]⟩
abbrev S32x1000 : Shape := ⟨2, ![32, 1000]⟩
abbrev S21x128 : Shape := ⟨2, ![21, 128]⟩
abbrev S1x128 : Shape := ⟨2, ![1, 128]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩

abbrev nBuf : Space → Nat
  | .hbm => 9
  | .vmem => 6
  | .smem => 0
  | _ => 0

abbrev bufTy : (tb : Table) → Fin (tcTables nBuf tb) → BufTy
  | .hbm, ⟨0, _⟩ => ⟨S32x3x64x64, .f32⟩
  | .hbm, ⟨1, _⟩ => ⟨S21x896, .f32⟩
  | .hbm, ⟨2, _⟩ => ⟨S896, .f32⟩
  | .hbm, ⟨3, _⟩ => ⟨S128x1000, .f32⟩
  | .hbm, ⟨4, _⟩ => ⟨S1000, .f32⟩
  | .hbm, ⟨5, _⟩ => ⟨S32x12288, .f32⟩
  | .hbm, ⟨6, _⟩ => ⟨S1x896, .f32⟩
  | .hbm, ⟨7, _⟩ => ⟨S1x1000, .f32⟩
  | .hbm, ⟨8, _⟩ => ⟨S32x1000, .f32⟩
  | .local _ .vmem, ⟨0, _⟩ => ⟨S32x12288, .f32⟩
  | .local _ .vmem, ⟨1, _⟩ => ⟨S21x896, .f32⟩
  | .local _ .vmem, ⟨2, _⟩ => ⟨S1x896, .f32⟩
  | .local _ .vmem, ⟨3, _⟩ => ⟨S128x1000, .f32⟩
  | .local _ .vmem, ⟨4, _⟩ => ⟨S1x1000, .f32⟩
  | .local _ .vmem, ⟨5, _⟩ => ⟨S32x1000, .f32⟩
  | _, _ => ⟨S32x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x3x64x64 : Shape := ⟨4, ![32, 3, 64, 64]⟩
abbrev S21x896 : Shape := ⟨2, ![21, 896]⟩
abbrev S896 : Shape := ⟨1, ![896]⟩
abbrev S128x1000 : Shape := ⟨2, ![128, 1000]⟩
abbrev S1000 : Shape := ⟨1, ![1000]⟩
abbrev S32x64x64x3 : Shape := ⟨4, ![32, 64, 64, 3]⟩
abbrev S32x64x1x64x1x3 : Shape := ⟨6, ![32, 64, 1, 64, 1, 3]⟩
abbrev S_ : Shape := ⟨0, ![]⟩
abbrev S32x64x1x64x3 : Shape := ⟨5, ![32, 64, 1, 64, 3]⟩
abbrev S32x64x64x1x3 : Shape := ⟨5, ![32, 64, 64, 1, 3]⟩
abbrev S32x32x2x32x2x3 : Shape := ⟨6, ![32, 32, 2, 32, 2, 3]⟩
abbrev S32x32x32x3 : Shape := ⟨4, ![32, 32, 32, 3]⟩
abbrev S32x32x2x32x3 : Shape := ⟨5, ![32, 32, 2, 32, 3]⟩
abbrev S32x64x32x3 : Shape := ⟨4, ![32, 64, 32, 3]⟩
abbrev S32x64x32x2x3 : Shape := ⟨5, ![32, 64, 32, 2, 3]⟩
abbrev S32x16x4x16x4x3 : Shape := ⟨6, ![32, 16, 4, 16, 4, 3]⟩
abbrev S32x16x16x3 : Shape := ⟨4, ![32, 16, 16, 3]⟩
abbrev S32x16x4x16x3 : Shape := ⟨5, ![32, 16, 4, 16, 3]⟩
abbrev S32x64x16x3 : Shape := ⟨4, ![32, 64, 16, 3]⟩
abbrev S32x64x16x4x3 : Shape := ⟨5, ![32, 64, 16, 4, 3]⟩
abbrev S32x8x8x8x8x3 : Shape := ⟨6, ![32, 8, 8, 8, 8, 3]⟩
abbrev S32x8x8x3 : Shape := ⟨4, ![32, 8, 8, 3]⟩
abbrev S32x8x8x8x3 : Shape := ⟨5, ![32, 8, 8, 8, 3]⟩
abbrev S32x64x8x3 : Shape := ⟨4, ![32, 64, 8, 3]⟩
abbrev S32x64x8x8x3 : Shape := ⟨5, ![32, 64, 8, 8, 3]⟩
abbrev S32x4x16x4x16x3 : Shape := ⟨6, ![32, 4, 16, 4, 16, 3]⟩
abbrev S32x4x4x3 : Shape := ⟨4, ![32, 4, 4, 3]⟩
abbrev S32x4x16x4x3 : Shape := ⟨5, ![32, 4, 16, 4, 3]⟩
abbrev S32x64x4x3 : Shape := ⟨4, ![32, 64, 4, 3]⟩
abbrev S32x64x4x16x3 : Shape := ⟨5, ![32, 64, 4, 16, 3]⟩
abbrev S32x2x32x2x32x3 : Shape := ⟨6, ![32, 2, 32, 2, 32, 3]⟩
abbrev S32x2x2x3 : Shape := ⟨4, ![32, 2, 2, 3]⟩
abbrev S32x2x32x2x3 : Shape := ⟨5, ![32, 2, 32, 2, 3]⟩
abbrev S32x64x2x3 : Shape := ⟨4, ![32, 64, 2, 3]⟩
abbrev S32x64x2x32x3 : Shape := ⟨5, ![32, 64, 2, 32, 3]⟩
abbrev S32x1x64x1x64x3 : Shape := ⟨6, ![32, 1, 64, 1, 64, 3]⟩
abbrev S32x1x1x3 : Shape := ⟨4, ![32, 1, 1, 3]⟩
abbrev S32x1x64x1x3 : Shape := ⟨5, ![32, 1, 64, 1, 3]⟩
abbrev S32x64x1x3 : Shape := ⟨4, ![32, 64, 1, 3]⟩
abbrev S32x64x64x7x3 : Shape := ⟨5, ![32, 64, 64, 7, 3]⟩
abbrev S32x64x64x21 : Shape := ⟨4, ![32, 64, 64, 21]⟩
abbrev S32x64x64x896 : Shape := ⟨4, ![32, 64, 64, 896]⟩
abbrev S1x1x1x896 : Shape := ⟨4, ![1, 1, 1, 896]⟩
abbrev S32x64x64x7x128 : Shape := ⟨5, ![32, 64, 64, 7, 128]⟩
abbrev S32x64x64x1x128 : Shape := ⟨5, ![32, 64, 64, 1, 128]⟩
abbrev S32x64x64x128 : Shape := ⟨4, ![32, 64, 64, 128]⟩
abbrev S32x128 : Shape := ⟨2, ![32, 128]⟩
abbrev S32x1000 : Shape := ⟨2, ![32, 1000]⟩
abbrev S1x1000 : Shape := ⟨2, ![1, 1000]⟩

abbrev nBuf : Space → Nat
  | .hbm => 101
  | .vmem => 0
  | .smem => 0
  | _ => 0

abbrev bufTy : (tb : Table) → Fin (tcTables nBuf tb) → BufTy
  | .hbm, ⟨0, _⟩ => ⟨S32x3x64x64, .f32⟩
  | .hbm, ⟨1, _⟩ => ⟨S21x896, .f32⟩
  | .hbm, ⟨2, _⟩ => ⟨S896, .f32⟩
  | .hbm, ⟨3, _⟩ => ⟨S128x1000, .f32⟩
  | .hbm, ⟨4, _⟩ => ⟨S1000, .f32⟩
  | .hbm, ⟨5, _⟩ => ⟨S32x64x64x3, .f32⟩
  | .hbm, ⟨6, _⟩ => ⟨S32x64x1x64x1x3, .f32⟩
  | .hbm, ⟨7, _⟩ => ⟨S_, .f32⟩
  | .hbm, ⟨8, _⟩ => ⟨S32x64x64x3, .f32⟩
  | .hbm, ⟨9, _⟩ => ⟨S_, .f32⟩
  | .hbm, ⟨10, _⟩ => ⟨S32x64x64x3, .f32⟩
  | .hbm, ⟨11, _⟩ => ⟨S32x64x64x3, .f32⟩
  | .hbm, ⟨12, _⟩ => ⟨S32x64x1x64x3, .f32⟩
  | .hbm, ⟨13, _⟩ => ⟨S32x64x64x3, .f32⟩
  | .hbm, ⟨14, _⟩ => ⟨S32x64x64x1x3, .f32⟩
  | .hbm, ⟨15, _⟩ => ⟨S32x64x64x3, .f32⟩
  | .hbm, ⟨16, _⟩ => ⟨S32x32x2x32x2x3, .f32⟩
  | .hbm, ⟨17, _⟩ => ⟨S_, .f32⟩
  | .hbm, ⟨18, _⟩ => ⟨S32x32x32x3, .f32⟩
  | .hbm, ⟨19, _⟩ => ⟨S_, .f32⟩
  | .hbm, ⟨20, _⟩ => ⟨S32x32x32x3, .f32⟩
  | .hbm, ⟨21, _⟩ => ⟨S32x32x32x3, .f32⟩
  | .hbm, ⟨22, _⟩ => ⟨S32x32x2x32x3, .f32⟩
  | .hbm, ⟨23, _⟩ => ⟨S32x64x32x3, .f32⟩
  | .hbm, ⟨24, _⟩ => ⟨S32x64x32x2x3, .f32⟩
  | .hbm, ⟨25, _⟩ => ⟨S32x64x64x3, .f32⟩
  | .hbm, ⟨26, _⟩ => ⟨S32x16x4x16x4x3, .f32⟩
  | .hbm, ⟨27, _⟩ => ⟨S_, .f32⟩
  | .hbm, ⟨28, _⟩ => ⟨S32x16x16x3, .f32⟩
  | .hbm, ⟨29, _⟩ => ⟨S_, .f32⟩
  | .hbm, ⟨30, _⟩ => ⟨S32x16x16x3, .f32⟩
  | .hbm, ⟨31, _⟩ => ⟨S32x16x16x3, .f32⟩
  | .hbm, ⟨32, _⟩ => ⟨S32x16x4x16x3, .f32⟩
  | .hbm, ⟨33, _⟩ => ⟨S32x64x16x3, .f32⟩
  | .hbm, ⟨34, _⟩ => ⟨S32x64x16x4x3, .f32⟩
  | .hbm, ⟨35, _⟩ => ⟨S32x64x64x3, .f32⟩
  | .hbm, ⟨36, _⟩ => ⟨S32x8x8x8x8x3, .f32⟩
  | .hbm, ⟨37, _⟩ => ⟨S_, .f32⟩
  | .hbm, ⟨38, _⟩ => ⟨S32x8x8x3, .f32⟩
  | .hbm, ⟨39, _⟩ => ⟨S_, .f32⟩
  | .hbm, ⟨40, _⟩ => ⟨S32x8x8x3, .f32⟩
  | .hbm, ⟨41, _⟩ => ⟨S32x8x8x3, .f32⟩
  | .hbm, ⟨42, _⟩ => ⟨S32x8x8x8x3, .f32⟩
  | .hbm, ⟨43, _⟩ => ⟨S32x64x8x3, .f32⟩
  | .hbm, ⟨44, _⟩ => ⟨S32x64x8x8x3, .f32⟩
  | .hbm, ⟨45, _⟩ => ⟨S32x64x64x3, .f32⟩
  | .hbm, ⟨46, _⟩ => ⟨S32x4x16x4x16x3, .f32⟩
  | .hbm, ⟨47, _⟩ => ⟨S_, .f32⟩
  | .hbm, ⟨48, _⟩ => ⟨S32x4x4x3, .f32⟩
  | .hbm, ⟨49, _⟩ => ⟨S_, .f32⟩
  | .hbm, ⟨50, _⟩ => ⟨S32x4x4x3, .f32⟩
  | .hbm, ⟨51, _⟩ => ⟨S32x4x4x3, .f32⟩
  | .hbm, ⟨52, _⟩ => ⟨S32x4x16x4x3, .f32⟩
  | .hbm, ⟨53, _⟩ => ⟨S32x64x4x3, .f32⟩
  | .hbm, ⟨54, _⟩ => ⟨S32x64x4x16x3, .f32⟩
  | .hbm, ⟨55, _⟩ => ⟨S32x64x64x3, .f32⟩
  | .hbm, ⟨56, _⟩ => ⟨S32x2x32x2x32x3, .f32⟩
  | .hbm, ⟨57, _⟩ => ⟨S_, .f32⟩
  | .hbm, ⟨58, _⟩ => ⟨S32x2x2x3, .f32⟩
  | .hbm, ⟨59, _⟩ => ⟨S_, .f32⟩
  | .hbm, ⟨60, _⟩ => ⟨S32x2x2x3, .f32⟩
  | .hbm, ⟨61, _⟩ => ⟨S32x2x2x3, .f32⟩
  | .hbm, ⟨62, _⟩ => ⟨S32x2x32x2x3, .f32⟩
  | .hbm, ⟨63, _⟩ => ⟨S32x64x2x3, .f32⟩
  | .hbm, ⟨64, _⟩ => ⟨S32x64x2x32x3, .f32⟩
  | .hbm, ⟨65, _⟩ => ⟨S32x64x64x3, .f32⟩
  | .hbm, ⟨66, _⟩ => ⟨S32x1x64x1x64x3, .f32⟩
  | .hbm, ⟨67, _⟩ => ⟨S_, .f32⟩
  | .hbm, ⟨68, _⟩ => ⟨S32x1x1x3, .f32⟩
  | .hbm, ⟨69, _⟩ => ⟨S_, .f32⟩
  | .hbm, ⟨70, _⟩ => ⟨S32x1x1x3, .f32⟩
  | .hbm, ⟨71, _⟩ => ⟨S32x1x1x3, .f32⟩
  | .hbm, ⟨72, _⟩ => ⟨S32x1x64x1x3, .f32⟩
  | .hbm, ⟨73, _⟩ => ⟨S32x64x1x3, .f32⟩
  | .hbm, ⟨74, _⟩ => ⟨S32x64x1x64x3, .f32⟩
  | .hbm, ⟨75, _⟩ => ⟨S32x64x64x3, .f32⟩
  | .hbm, ⟨76, _⟩ => ⟨S32x64x64x1x3, .f32⟩
  | .hbm, ⟨77, _⟩ => ⟨S32x64x64x1x3, .f32⟩
  | .hbm, ⟨78, _⟩ => ⟨S32x64x64x1x3, .f32⟩
  | .hbm, ⟨79, _⟩ => ⟨S32x64x64x1x3, .f32⟩
  | .hbm, ⟨80, _⟩ => ⟨S32x64x64x1x3, .f32⟩
  | .hbm, ⟨81, _⟩ => ⟨S32x64x64x1x3, .f32⟩
  | .hbm, ⟨82, _⟩ => ⟨S32x64x64x1x3, .f32⟩
  | .hbm, ⟨83, _⟩ => ⟨S32x64x64x7x3, .f32⟩
  | .hbm, ⟨84, _⟩ => ⟨S32x64x64x21, .f32⟩
  | .hbm, ⟨85, _⟩ => ⟨S32x64x64x896, .f32⟩
  | .hbm, ⟨86, _⟩ => ⟨S1x1x1x896, .f32⟩
  | .hbm, ⟨87, _⟩ => ⟨S32x64x64x896, .f32⟩
  | .hbm, ⟨88, _⟩ => ⟨S32x64x64x896, .f32⟩
  | .hbm, ⟨89, _⟩ => ⟨S32x64x64x7x128, .f32⟩
  | .hbm, ⟨90, _⟩ => ⟨S32x64x64x1x128, .f32⟩
  | .hbm, ⟨91, _⟩ => ⟨S32x64x64x128, .f32⟩
  | .hbm, ⟨92, _⟩ => ⟨S_, .f32⟩
  | .hbm, ⟨93, _⟩ => ⟨S32x128, .f32⟩
  | .hbm, ⟨94, _⟩ => ⟨S_, .f32⟩
  | .hbm, ⟨95, _⟩ => ⟨S32x128, .f32⟩
  | .hbm, ⟨96, _⟩ => ⟨S32x128, .f32⟩
  | .hbm, ⟨97, _⟩ => ⟨S32x1000, .f32⟩
  | .hbm, ⟨98, _⟩ => ⟨S1x1000, .f32⟩
  | .hbm, ⟨99, _⟩ => ⟨S32x1000, .f32⟩
  | .hbm, ⟨100, _⟩ => ⟨S32x1000, .f32⟩
  | _, _ => ⟨S32x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_cst_14 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Proof.Means.lean ====
/- Block means over the reals: for a 64 by 64 table cut into square blocks, replacing every cell by the mean of its block
   does not change the total. Then the algebra that turns the reference's mean of projected cells into the kernel's
   combination of three channel totals, over extended reals. -/
module

public import Mathlib.Data.EReal.Operations
public import Mathlib.Data.EReal.Inv
public import Mathlib.Algebra.BigOperators.Fin
public import Mathlib.Algebra.BigOperators.Field
public import Mathlib.Algebra.BigOperators.GroupWithZero.Action
public import Mathlib.Logic.Equiv.Fin.Basic
public import Mathlib.Tactic.Ring
public import Mathlib.Tactic.NormNum
public import Mathlib.Tactic.Linarith

@[expose] public section

noncomputable section

namespace Cert.Proof

/-- Position `i` of the block of length `s` that holds position `h`, out of `64 = n * s` positions. -/
def cell {n s : ℕ} (hn : n * s = 64) (h : Fin 64) (i : Fin s) : Fin 64 :=
  ⟨h.val / s * s + i.val, by
    have hs : 0 < s := Nat.pos_of_ne_zero fun e => by simp [e] at hn
    have hq : h.val / s + 1 ≤ n := Nat.succ_le_of_lt (Nat.div_lt_of_lt_mul (by rw [Nat.mul_comm, hn]; exact h.isLt))
    calc h.val / s * s + i.val < h.val / s * s + s := Nat.add_lt_add_left i.isLt _
      _ = (h.val / s + 1) * s := by ring
      _ ≤ n * s := Nat.mul_le_mul_right _ hq
      _ = 64 := hn⟩

/-- Summed over all positions, the sum over each position's block counts every position once per member of its block. -/
theorem sum_cells {M : Type*} [AddCommMonoid M] {n s : ℕ} (hn : n * s = 64) (f : Fin 64 → M) :
    ∑ h : Fin 64, ∑ i : Fin s, f (cell hn h i) = s • ∑ h : Fin 64, f h := by
  let e : Fin n × Fin s ≃ Fin 64 := finProdFinEquiv.trans (finCongr hn)
  have hcell : ∀ (q : Fin n) (r i : Fin s), cell hn (e (q, r)) i = e (q, i) := fun q r i => by
    apply Fin.ext
    have hs : 0 < s := i.pos
    show (r.val + s * q.val) / s * s + i.val = i.val + s * q.val
    rw [Nat.add_mul_div_left _ _ hs, Nat.div_eq_of_lt r.isLt]; ring
  rw [← e.sum_comp, ← e.sum_comp f, Fintype.sum_prod_type, Fintype.sum_prod_type, Finset.smul_sum]
  refine Finset.sum_congr rfl fun q _ => ?_
  simp only [hcell, Finset.sum_const, Finset.card_univ, Fintype.card_fin]

/-- The mean of the `s` by `s` block holding cell `(h, w)`. -/
def blockMean {n s : ℕ} (hn : n * s = 64) (X : Fin 64 → Fin 64 → ℝ) (h w : Fin 64) : ℝ :=
  (∑ i : Fin s, ∑ j : Fin s, X (cell hn h i) (cell hn w j)) / (s * s : ℝ)

/-- Block means keep the total of the table. -/
theorem sum_blockMean {n s : ℕ} (hn : n * s = 64) (X : Fin 64 → Fin 64 → ℝ) :
    ∑ h, ∑ w, blockMean hn X h w = ∑ h, ∑ w, X h w := by
  have hs : (s : ℝ) ≠ 0 := by rintro e; have : s = 0 := by exact_mod_cast e
                              simp [this] at hn
  simp only [blockMean, ← Finset.sum_div]
  rw [div_eq_iff (mul_ne_zero hs hs)]
  have inner : ∀ h : Fin 64, ∑ w : Fin 64, ∑ i : Fin s, ∑ j : Fin s, X (cell hn h i) (cell hn w j)
      = ∑ i : Fin s, s • ∑ w : Fin 64, X (cell hn h i) w := fun h => by
    rw [Finset.sum_comm]
    exact Finset.sum_congr rfl fun i _ => sum_cells hn (X (cell hn h i))
  simp only [inner]
  rw [sum_cells hn fun h => s • ∑ w : Fin 64, X h w, ← Finset.smul_sum, nsmul_eq_mul, nsmul_eq_mul]
  ring

/-- The flat sum of a table laid out row after row is its double sum. -/
theorem sum_flat {M : Type*} [AddCommMonoid M] (f : Fin 4096 → M) :
    ∑ p : Fin 4096, f p = ∑ h : Fin 64, ∑ w : Fin 64, f ⟨h.val * 64 + w.val, by omega⟩ := by
  rw [← (finProdFinEquiv (m := 64) (n := 64)).sum_comp, Fintype.sum_prod_type]
  refine Finset.sum_congr rfl fun h _ => Finset.sum_congr rfl fun w _ => congrArg f (Fin.ext ?_)
  show w.val + 64 * h.val = h.val * 64 + w.val
  ring

/-- Level `l`'s blocks have side `2 ^ l`, and `2 ^ (6 - l)` of them fill an edge. -/
theorem side_mul (l : Fin 7) : 2 ^ (6 - l.val) * 2 ^ l.val = 64 := by
  rw [← pow_add, Nat.sub_add_cancel (Nat.le_of_lt_succ l.isLt)]; rfl

/-- Feature `r` of cell `(h, w)`: with the 21 features running through the levels and, within a level, the three channels,
    the level-`r / 3` block mean of channel `r % 3`. -/
def feature (X : Fin 3 → Fin 64 → Fin 64 → ℝ) (h w : Fin 64) (r : Fin 21) : ℝ :=
  blockMean (side_mul ⟨r.val / 3, by omega⟩) (X ⟨r.val % 3, by omega⟩) h w

/-- A sum of real numbers, as extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The total over all cells of the features weighted by `u` needs the channel totals only. -/
theorem sum_features (X : Fin 3 → Fin 64 → Fin 64 → ℝ) (u : Fin 21 → ℝ) :
    ∑ h, ∑ w, ∑ r, feature X h w r * u r = ∑ r : Fin 21, (∑ h, ∑ w, X ⟨r.val % 3, by omega⟩ h w) * u r := by
  have swap : ∑ h, ∑ w, ∑ r, feature X h w r * u r = ∑ r, (∑ h, ∑ w, feature X h w r) * u r := by
    simp only [Finset.sum_mul]
    refine Eq.trans (Finset.sum_congr rfl fun h _ => Finset.sum_comm) Finset.sum_comm
  rw [swap]
  exact Finset.sum_congr rfl fun r _ => congrArg (· * u r) (sum_blockMean _ _)

/-- A real total plus 4096 copies of `b`, divided by 4096: the mean plus `b`, which may be infinite. -/
theorem mean_add (a : ℝ) (b : EReal) : ((a : EReal) + (4096 : ℕ) • b) * ((4096 : ℝ) : EReal)⁻¹ = b + ((a / 4096 : ℝ) : EReal) := by
  have hinv : ((4096 : ℝ) : EReal)⁻¹ = ((4096⁻¹ : ℝ) : EReal) := (EReal.coe_inv _).symm
  rw [hinv, EReal.right_distrib_of_nonneg_of_ne_top (EReal.coe_nonneg.2 (by norm_num)) (EReal.coe_ne_top _), EReal.nsmul_eq_mul,
    mul_right_comm, add_comm, ← EReal.coe_mul, div_eq_mul_inv]
  have one : ((4096 : ℕ) : EReal) * ((4096⁻¹ : ℝ) : EReal) = 1 := by
    rw [← EReal.coe_natCast, ← EReal.coe_mul]; norm_num
  rw [one, one_mul]

end Cert.Proof

end
-- ==== Proof.Reads.lean ====
/- Reads at an index that the reference's image pyramid needs: the host sum over two axes, and one whole level of the
   pyramid — cut into blocks, block means taken, each mean repeated over its block — at any block side. -/
module

public import proofs.«01_k».proof.Proof.Means
public import Idealize.ShloMosaic.Lib.Pointwise

@[expose] public section

noncomputable section

namespace Cert.Proof

open Idealize.ShloMosaic

/-- The host's sum of a rank-6 array over its axes 2 and 4, at an index. -/
theorem sum_axes_2_4 {a n s p t c : ℕ} (red : (⟨6, ![a, n, s, p, t, c]⟩ : Shape).ReducesTo [2, 4] ⟨4, ![a, n, p, c]⟩)
    (v : (⟨6, ![a, n, s, p, t, c]⟩ : Shape).Idx → EReal) (z : EReal) (b : Fin a) (q : Fin n) (r : Fin p) (d : Fin c) :
    Ideal.hostReduceAdd red v z (ix4 b q r d) = z + ∑ i : Fin s, ∑ j : Fin t, v (ix6 b q i r j d) := by
  have back : ∀ x, red.drop x = ix4 b q r d → ix6 b q (x 2) r (x 4) d = x := fun x hx => funext fun y => Fin.ext (by
    have at_ := fun k => (congrArg Fin.val (congrFun hx k)).symm
    match y with
    | ⟨0, _⟩ => exact at_ 0
    | ⟨1, _⟩ => exact at_ 1
    | ⟨3, _⟩ => exact at_ 2
    | ⟨5, _⟩ => exact at_ 3
    | ⟨2, _⟩ | ⟨4, _⟩ => rfl)
  rw [← Fintype.sum_prod_type' fun i j => v (ix6 b q i r j d)]
  refine congrArg (z + ·) (Finset.sum_nbij' (fun x => (x 2, x 4)) (fun k => ix6 b q k.1 r k.2 d) (fun _ _ => Finset.mem_univ _)
    (fun k _ => Finset.mem_filter.2 ⟨Finset.mem_univ _, funext fun y => Fin.ext ?_⟩) (fun x hx => back x (Finset.mem_filter.1 hx).2)
    (fun _ _ => rfl) (fun x hx => (congrArg v (back x (Finset.mem_filter.1 hx).2)).symm))
  match y with
  | ⟨0, _⟩ | ⟨1, _⟩ | ⟨2, _⟩ | ⟨3, _⟩ => rfl

/-- The host's sum of a rank-4 array over its axes 1 and 2, at an index. -/
theorem sum_axes_1_2 {a n p c : ℕ} (red : (⟨4, ![a, n, p, c]⟩ : Shape).ReducesTo [1, 2] ⟨2, ![a, c]⟩)
    (v : (⟨4, ![a, n, p, c]⟩ : Shape).Idx → EReal) (z : EReal) (b : Fin a) (d : Fin c) :
    Ideal.hostReduceAdd red v z (ix2 b d) = z + ∑ h : Fin n, ∑ w : Fin p, v (ix4 b h w d) := by
  have back : ∀ x, red.drop x = ix2 b d → ix4 b (x 1) (x 2) d = x := fun x hx => funext fun y => Fin.ext (by
    match y with
    | ⟨0, _⟩ => exact (congrArg Fin.val (congrFun hx 0)).symm
    | ⟨3, _⟩ => exact (congrArg Fin.val (congrFun hx 1)).symm
    | ⟨1, _⟩ | ⟨2, _⟩ => rfl)
  rw [← Fintype.sum_prod_type' fun h w => v (ix4 b h w d)]
  refine congrArg (z + ·) (Finset.sum_nbij' (fun x => (x 1, x 2)) (fun k => ix4 b k.1 k.2 d) (fun _ _ => Finset.mem_univ _)
    (fun k _ => Finset.mem_filter.2 ⟨Finset.mem_univ _, funext fun y => Fin.ext ?_⟩) (fun x hx => back x (Finset.mem_filter.1 hx).2)
    (fun _ _ => rfl) (fun x hx => (congrArg v (back x (Finset.mem_filter.1 hx).2)).symm))
  match y with
  | ⟨0, _⟩ | ⟨1, _⟩ => rfl

/-- A broadcast along named axes, read at an index whose source is known coordinate by coordinate. -/
theorem spread_at {src t : Shape} {α : Type} (dims : Fin src.rank → Fin t.rank) (e : src.BroadcastsInDim t dims)
    (x : src.Idx → α) (j : t.Idx) (i : src.Idx) (hi : ∀ k, (i k).val = (j (dims k)).val) : broadcastInDim t dims e x j = x i := by
  refine congrArg x (funext fun k => Fin.ext ?_)
  split
  · next one => have := (i k).isLt; omega
  · exact (hi k).symm

/-- A re-layout, read at an index whose row-major position in the source is known. -/
theorem relaid_at {src t : Shape} {α : Type} (x : src.Idx → α) (e : src.ShapeCasts t) (j : t.Idx) (i : src.Idx)
    (hi : (src.rowMajor i : ℕ) = t.rowMajor j) : shapeCast t x e j = x i :=
  congrArg x (Shape.reshapeEquiv_eq_of_rowMajor e hi)

/-- The image, channels last, cut into `n` by `n` blocks of side `s`: cell `(i, j)` of block `(q, r)`. -/
theorem blocks_at {n s : ℕ} (hn : n * s = 64) (v : (⟨4, ![32, 64, 64, 3]⟩ : Shape).Idx → EReal)
    (e : (⟨4, ![32, 64, 64, 3]⟩ : Shape).ShapeCasts ⟨6, ![32, n, s, n, s, 3]⟩) (b : Fin 32) (q : Fin n) (i : Fin s) (r : Fin n) (j : Fin s)
    (c : Fin 3) (h w : Fin 64) (hh : h.val = q.val * s + i.val) (hw : w.val = r.val * s + j.val) :
    shapeCast ⟨6, ![32, n, s, n, s, 3]⟩ v e (ix6 b q i r j c) = v (ix4 b h w c) := by
  refine relaid_at v e _ _ ?_
  rw [rowMajor_val4 _ _ _ _ rfl rfl rfl, rowMajor_val6 _ _ _ _ _ _ rfl rfl rfl rfl rfl]
  show b.val * (64 * (64 * 3)) + h.val * (64 * 3) + w.val * 3 + c.val
    = b.val * (n * (s * (n * (s * 3)))) + q.val * (s * (n * (s * 3))) + i.val * (n * (s * 3)) + r.val * (s * 3) + j.val * 3 + c.val
  rw [hh, hw, ← hn]
  ring

/-- What a level with `n` by `n` blocks of side `s` asks of its array shapes. -/
structure Fits (n s : ℕ) : Prop where
  cut : (⟨4, ![32, 64, 64, 3]⟩ : Shape).ShapeCasts ⟨6, ![32, n, s, n, s, 3]⟩
  sum : (⟨6, ![32, n, s, n, s, 3]⟩ : Shape).ReducesTo [2, 4] ⟨4, ![32, n, n, 3]⟩
  one : 0 < (⟨0, ![]⟩ : Shape).numel
  fill : (⟨0, ![]⟩ : Shape).BroadcastsInDim ⟨4, ![32, n, n, 3]⟩ ![]
  rows : (⟨4, ![32, n, n, 3]⟩ : Shape).BroadcastsInDim ⟨5, ![32, n, s, n, 3]⟩ ![0, 1, 3, 4]
  rowsJoin : (⟨5, ![32, n, s, n, 3]⟩ : Shape).ShapeCasts ⟨4, ![32, 64, n, 3]⟩
  cols : (⟨4, ![32, 64, n, 3]⟩ : Shape).BroadcastsInDim ⟨5, ![32, 64, n, s, 3]⟩ ![0, 1, 2, 4]
  colsJoin : (⟨5, ![32, 64, n, s, 3]⟩ : Shape).ShapeCasts ⟨4, ![32, 64, 64, 3]⟩
  unit : (⟨4, ![32, 64, 64, 3]⟩ : Shape).BroadcastsInDim ⟨5, ![32, 64, 64, 1, 3]⟩ ![0, 1, 2, 4]

/-- One level of the pyramid: block sums over `s` by `s` blocks, divided by the constant word `k`, each quotient repeated
    over its block, with a unit axis for the level. -/
def level {n s : ℕ} (e : Fits n s) (k : BitVec 32) (v : FVec Ideal ⟨4, ![32, 64, 64, 3]⟩ .f32) : FVec Ideal ⟨5, ![32, 64, 64, 1, 3]⟩ .f32 :=
  broadcastInDim ⟨5, ![32, 64, 64, 1, 3]⟩ ![0, 1, 2, 4] e.unit (shapeCast ⟨4, ![32, 64, 64, 3]⟩
    (broadcastInDim ⟨5, ![32, 64, n, s, 3]⟩ ![0, 1, 2, 4] e.cols (shapeCast ⟨4, ![32, 64, n, 3]⟩
      (broadcastInDim ⟨5, ![32, n, s, n, 3]⟩ ![0, 1, 3, 4] e.rows
        (Host.divf (Host.reduceAdd (shapeCast ⟨6, ![32, n, s, n, s, 3]⟩ v e.cut) (constant ⟨0, ![]⟩ .f32 0x00000000#32) e.sum e.one)
          (broadcastInDim ⟨4, ![32, n, n, 3]⟩ ![] e.fill (constant ⟨0, ![]⟩ .f32 k)))) e.rowsJoin)) e.colsJoin)

/-- A level of the pyramid over a finite image, its divisor the number of cells of a block, holds the block means. -/
theorem level_at {n s : ℕ} (hn : n * s = 64) (k : BitVec 32) (hk : Ideal.ofBits .f32 k = ((s * s : ℝ) : EReal))
    (v : FVec Ideal ⟨4, ![32, 64, 64, 3]⟩ .f32) (X : Fin 32 → Fin 3 → Fin 64 → Fin 64 → ℝ)
    (hv : ∀ b h w c, v (ix4 b h w c) = (X b c h w : EReal)) (e : Fits n s) (b : Fin 32) (h w : Fin 64) (c : Fin 3) :
    level e k v (ix5 b h w 0 c) = (blockMean hn (X b c) h w : EReal) := by
  have hs : 0 < s := Nat.pos_of_ne_zero fun e => by simp [e] at hn
  have split : ∀ y : Fin 64, y.val / s < n := fun y => Nat.div_lt_of_lt_mul (by rw [Nat.mul_comm, hn]; exact y.isLt)
  have join : ∀ y : ℕ, y / s * s + y % s = y := fun y => by rw [Nat.mul_comm]; exact Nat.div_add_mod y s
  have edge : ∀ y, n * (s * y) = 64 * y := fun y => by rw [← Nat.mul_assoc, hn]
  unfold level
  rw [spread_at _ _ _ _ (ix4 b h w c) fun a => by match a with | ⟨0, _⟩ | ⟨1, _⟩ | ⟨2, _⟩ | ⟨3, _⟩ => rfl,
    relaid_at _ e.colsJoin _ (ix5 b h ⟨w.val / s, split w⟩ ⟨w.val % s, Nat.mod_lt _ hs⟩ c) (by
      rw [rowMajor_val4 _ _ _ _ rfl rfl rfl, rowMajor_val5 _ _ _ _ _ rfl rfl rfl rfl]
      show b.val * (64 * (n * (s * 3))) + h.val * (n * (s * 3)) + w.val / s * (s * 3) + w.val % s * 3 + c.val
        = b.val * (64 * (64 * 3)) + h.val * (64 * 3) + w.val * 3 + c.val
      rw [edge]
      linarith [join w.val]),
    spread_at _ _ _ _ (ix4 b h ⟨w.val / s, split w⟩ c) fun a => by match a with | ⟨0, _⟩ | ⟨1, _⟩ | ⟨2, _⟩ | ⟨3, _⟩ => rfl,
    relaid_at _ e.rowsJoin _ (ix5 b ⟨h.val / s, split h⟩ ⟨h.val % s, Nat.mod_lt _ hs⟩ ⟨w.val / s, split w⟩ c) (by
      rw [rowMajor_val4 _ _ _ _ rfl rfl rfl, rowMajor_val5 _ _ _ _ _ rfl rfl rfl rfl]
      show b.val * (n * (s * (n * 3))) + h.val / s * (s * (n * 3)) + h.val % s * (n * 3) + w.val / s * 3 + c.val
        = b.val * (64 * (n * 3)) + h.val * (n * 3) + w.val / s * 3 + c.val
      have row := congrArg (· * (n * 3)) (join h.val)
      simp only [Nat.add_mul, Nat.mul_assoc] at row
      rw [edge]
      linarith),
    spread_at _ _ _ _ (ix4 b ⟨h.val / s, split h⟩ ⟨w.val / s, split w⟩ c) fun a => by
      match a with | ⟨0, _⟩ | ⟨1, _⟩ | ⟨2, _⟩ | ⟨3, _⟩ => rfl]
  show Ideal.div (Ideal.hostReduceAdd e.sum _ (Ideal.ofBits .f32 0x00000000#32) _) (Ideal.ofBits .f32 k) = _
  have s0 : (s : ℝ) * s ≠ 0 := by have : (s : ℝ) ≠ 0 := by exact_mod_cast hs.ne'
                                  exact mul_ne_zero this this
  rw [sum_axes_2_4, hk, Ideal.ofBits_zero_f32, zero_add, Ideal.div, if_neg (by exact_mod_cast s0), ← EReal.coe_inv]
  have cells : ∀ i j, shapeCast ⟨6, ![32, n, s, n, s, 3]⟩ v e.cut (ix6 b ⟨h.val / s, split h⟩ i ⟨w.val / s, split w⟩ j c)
      = (X b c (cell hn h i) (cell hn w j) : EReal) := fun i j =>
    (blocks_at hn v e.cut b _ i _ j c (cell hn h i) (cell hn w j) rfl rfl).trans (hv b _ _ c)
  simp only [cells, ← coe_sum, ← EReal.coe_mul]
  rw [blockMean, div_eq_mul_inv]

end Cert.Proof

end
-- ==== Proof.Kernel.lean ====
/- The kernel's value: what the one grid point stores, and the result array after the run, at an index. -/
module

public import proofs.«01_k».proof.Proof.Reads
public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.Proof

open Idealize.ShloMosaic Cert.KernelIdeal Cert.KernelIdeal.Gen

/-- A bias plus three channel totals, each scaled by `q` and weighted by the sum of its channel's seven rows. -/
def mixed (q bias s0 s1 s2 : EReal) (u : Fin 21 → EReal) : EReal :=
  bias + s0 * q * (u 0 + u 3 + u 6 + u 9 + u 12 + u 15 + u 18) + s1 * q * (u 1 + u 4 + u 7 + u 10 + u 13 + u 16 + u 19)
    + s2 * q * (u 2 + u 5 + u 8 + u 11 + u 14 + u 17 + u 20)

/-- What the body stores, at an index: the classifier row over the mixed channel totals. -/
theorem out_at (x0 : Vec Ideal S32x12288 .f32) (x1 : Vec Ideal S21x896 .f32) (x2 : Vec Ideal S1x896 .f32) (x3 : Vec Ideal S128x1000 .f32)
    (x4 : Vec Ideal S1x1000 .f32) (b : Fin 32) (k : Fin 1000) : out0_5 x0 x1 x2 x3 x4 (ix2 b k)
      = (∑ d : Fin 128, mixed (Ideal.ofBits .f32 0x39800000#32) (x2 (ix2 0 ⟨768 + d.val, by omega⟩))
          (∑ p : Fin 4096, x0 (ix2 b ⟨p.val, by omega⟩)) (∑ p : Fin 4096, x0 (ix2 b ⟨4096 + p.val, by omega⟩))
          (∑ p : Fin 4096, x0 (ix2 b ⟨8192 + p.val, by omega⟩)) (fun r => x1 (ix2 r ⟨768 + d.val, by omega⟩)) * x3 (ix2 d k))
        + x4 (ix2 0 k) := by
  unfold out0_5
  frame_out
  unfold_payloads
  pointwise [mixed]

variable (m : (ℓ : Loc nD τ sig) → Buf (Elt Ideal) ℓ) (c : Dev nD)

/-- Every input window sits at its array's origin at the one grid point. -/
theorem origin : win0_0.index t0_0 = ![0, 0] ∧ win0_1.index t0_0 = ![0, 0] ∧ win0_2.index t0_0 = ![0, 0] ∧ win0_3.index t0_0 = ![0, 0]
    ∧ win0_4.index t0_0 = ![0, 0] := by decide +kernel

/-- The five input windows' blocks at the one grid point are the argument arrays, three of them re-laid. -/
theorem blocks :
    iblk m c 0 t0_0 = shapeCast S32x12288 (m ((c.tc : Thread nD τ).loc main_arg0)) shapeCasts_S32x3x64x64_S32x12288
    ∧ iblk m c 1 t0_0 = m ((c.tc : Thread nD τ).loc main_arg1)
    ∧ iblk m c 2 t0_0 = shapeCast S1x896 (m ((c.tc : Thread nD τ).loc main_arg2)) shapeCasts_S896_S1x896
    ∧ iblk m c 3 t0_0 = m ((c.tc : Thread nD τ).loc main_arg3)
    ∧ iblk m c 4 t0_0 = shapeCast S1x1000 (m ((c.tc : Thread nD τ).loc main_arg4)) shapeCasts_S1000_S1x1000 := by
  obtain ⟨o0, o1, o2, o3, o4⟩ := origin
  refine ⟨?_, ?_, ?_, ?_, ?_⟩ <;> (funext j; blk_simp [iblk]; entry_read; blk_ext [o0, o1, o2, o3, o4])

/-- Channel `ch` of image `b`, summed over all its cells. -/
def total (x : S32x3x64x64.Idx → EReal) (b : Fin 32) (ch : Fin 3) : EReal := ∑ h : Fin 64, ∑ w : Fin 64, x (ix4 b ch h w)

/-- One channel's 4096 columns of the re-laid image, the first of them column `o`, sum to the channel's total. -/
theorem sum_channel (x : S32x3x64x64.Idx → EReal) (b : Fin 32) (ch : Fin 3) (o : Fin 4096 → Fin 12288) (ho : ∀ p, (o p).val = ch.val * 4096 + p.val) :
    ∑ p : Fin 4096, shapeCast S32x12288 x shapeCasts_S32x3x64x64_S32x12288 (ix2 b (o p)) = total x b ch := by
  rw [sum_flat]
  refine Finset.sum_congr rfl fun h _ => Finset.sum_congr rfl fun w _ => relaid_at x _ _ _ ?_
  rw [rowMajor_val4 _ _ _ _ rfl rfl rfl, rowMajor_val2 _ _ rfl]
  show b.val * (3 * (64 * 64)) + ch.val * (64 * 64) + h.val * 64 + w.val = b.val * 12288 + (o ⟨h.val * 64 + w.val, by omega⟩).val
  rw [ho]
  ring

/-- The kernel's result as a function of the argument arrays. -/
def kernelValue (x : S32x3x64x64.Idx → EReal) (u : S21x896.Idx → EReal) (bias : S896.Idx → EReal) (cls : S128x1000.Idx → EReal)
    (cb : S1000.Idx → EReal) (j : S32x1000.Idx) : EReal :=
  (∑ d : Fin 128, mixed (Ideal.ofBits .f32 0x39800000#32) (bias (ix1 ⟨768 + d.val, by omega⟩)) (total x (j 0) 0) (total x (j 0) 1) (total x (j 0) 2)
      (fun r => u (ix2 r ⟨768 + d.val, by omega⟩)) * cls (ix2 d (j 1))) + cb (ix1 (j 1))

/-- What the body stores when its blocks are the argument arrays. -/
theorem out_value (x : S32x3x64x64.Idx → EReal) (u : S21x896.Idx → EReal) (bias : S896.Idx → EReal) (cls : S128x1000.Idx → EReal)
    (cb : S1000.Idx → EReal) : out0_5 (F := Ideal) (shapeCast S32x12288 x shapeCasts_S32x3x64x64_S32x12288) u (shapeCast S1x896 bias shapeCasts_S896_S1x896) cls
      (shapeCast S1x1000 cb shapeCasts_S1000_S1x1000) = kernelValue x u bias cls cb := by
  funext j
  idx_vars j
  rw [out_at]
  have s0 := sum_channel x j0 0 (fun p => ⟨p.val, by omega⟩) fun p => by simp
  have s1 := sum_channel x j0 1 (fun p => ⟨4096 + p.val, by omega⟩) fun p => by simp
  have s2 := sum_channel x j0 2 (fun p => ⟨8192 + p.val, by omega⟩) fun p => by simp
  have e2 : ∀ k, shapeCast S1x896 bias shapeCasts_S896_S1x896 (ix2 0 k) = bias (ix1 k) := fun k => by pointwise
  have e4 : ∀ k, shapeCast S1x1000 cb shapeCasts_S1000_S1x1000 (ix2 0 k) = cb (ix1 k) := fun k => by pointwise
  simp only [s0, s1, s2, e2, e4]
  rfl

/-- The result array after the run is `kernelValue` of the argument arrays. -/
theorem final_eq : (dats m 0 c).arrAt 5 cfg0.N = kernelValue (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_after_last 5 t0_0 (by decide +kernel) _ fun j => ?_
  blk_simp
  rw [after0_5]
  obtain ⟨e0, e1, e2, e3, e4⟩ := blocks m c
  rw [e0, e1, e2, e3, e4]
  exact congrFun (out_value _ _ _ _ _) j

end Cert.Proof

end
-- ==== Proof.Reference.lean ====
/- The reference's value: at an index, over a finite image, one classifier row over means of projected cells. -/
module

public import proofs.«01_k».proof.Proof.Reads
public import proofs.«01_k».proof.Proof.Gen.ReferenceIdeal.Run

@[expose] public section

set_option maxRecDepth 16384

noncomputable section

namespace Cert.Proof

open Idealize.ShloMosaic Cert.ReferenceIdeal Cert.ReferenceIdeal.Gen

/-- The seven levels' shapes are consistent. -/
theorem fits (l : Fin 7) : Fits (2 ^ (6 - l.val)) (2 ^ l.val) := by
  fin_cases l <;> exact ⟨by decide, by decide, by decide, by decide, by decide, by decide, by decide, by decide, by decide⟩

/-- The seven levels of the pyramid of a channels-last image, stacked. -/
def stack (v : FVec Ideal S32x64x64x3 .f32) : FVec Ideal S32x64x64x7x3 .f32 :=
  concatenate S32x64x64x7x3 3 [
    ⟨S32x64x64x1x3, level (fits 0) 0x3F800000#32 v⟩,
    ⟨S32x64x64x1x3, level (fits 1) 0x40800000#32 v⟩,
    ⟨S32x64x64x1x3, level (fits 2) 0x41800000#32 v⟩,
    ⟨S32x64x64x1x3, level (fits 3) 0x42800000#32 v⟩,
    ⟨S32x64x64x1x3, level (fits 4) 0x43800000#32 v⟩,
    ⟨S32x64x64x1x3, level (fits 5) 0x44800000#32 v⟩,
    ⟨S32x64x64x1x3, level (fits 6) 0x45800000#32 v⟩]
    concatenates_S32x64x64x1x3_S32x64x64x1x3_S32x64x64x1x3_S32x64x64x1x3_S32x64x64x1x3_S32x64x64x1x3_S32x64x64x1x3_S32x64x64x7x3_d3

/-- The projected cells' last 128 columns, averaged over the image. -/
def root (f : FVec Ideal S32x64x64x7x3 .f32) (u : FVec Ideal S21x896 .f32) (bias : FVec Ideal S896 .f32) : FVec Ideal S32x128 .f32 :=
  Host.divf (Host.reduceAdd (shapeCast S32x64x64x128 (extractStridedSlice S32x64x64x1x128 ![0, 0, 0, 6, 0]
      (shapeCast S32x64x64x7x128 (addf (Host.dotGeneral dot_S32x64x64x21_S21x896_S32x64x64x896_3_0_012_1_n_n none
          (shapeCast S32x64x64x21 f shapeCasts_S32x64x64x7x3_S32x64x64x21) u)
        (broadcastInDim S32x64x64x896 ![0, 1, 2, 3] bcast_S1x1x1x896_S32x64x64x896_0_1_2_3 (broadcastInDim S1x1x1x896 ![3] bcast_S896_S1x1x1x896_3 bias)))
      shapeCasts_S32x64x64x896_S32x64x64x7x128) slices_S32x64x64x7x128_S32x64x64x1x128_0_0_0_6_0) shapeCasts_S32x64x64x1x128_S32x64x64x128)
    (constant S_ .f32 0x00000000#32) reducesTo_S32x64x64x128_S32x128_d1_2 h_S_)
    (broadcastInDim S32x128 ![] bcast_S_S32x128 (constant S_ .f32 0x45800000#32))

/-- The classifier over the averaged cells. -/
def scores (f : FVec Ideal S32x128 .f32) (cls : FVec Ideal S128x1000 .f32) (cb : FVec Ideal S1000 .f32) : FVec Ideal S32x1000 .f32 :=
  addf (Host.dotGeneral dot_S32x128_S128x1000_S32x1000_1_0_0_1_n_n none f cls)
    (broadcastInDim S32x1000 ![0, 1] bcast_S1x1000_S32x1000_0_1 (broadcastInDim S1x1000 ![1] bcast_S1000_S1x1000_1 cb))

/-- The reference's result is the classifier over the averaged projections of the stacked pyramid. -/
theorem result_eq (m : (ℓ : Loc nD τ sig) → Buf (Elt Ideal) ℓ) (c : Dev nD) :
    Value.res_out0 m c = scores (root (stack (transpose S32x64x64x3 [0, 2, 3, 1] (m ((c.tc : Thread nD τ).loc main_arg0))
        transposes_S32x3x64x64_S32x64x64x3_0_2_3_1)) (m ((c.tc : Thread nD τ).loc main_arg1)) (m ((c.tc : Thread nD τ).loc main_arg2)))
      (m ((c.tc : Thread nD τ).loc main_arg3)) (m ((c.tc : Thread nD τ).loc main_arg4)) := rfl

/-- The classifier at an index. -/
theorem scores_at (f : FVec Ideal S32x128 .f32) (cls : FVec Ideal S128x1000 .f32) (cb : FVec Ideal S1000 .f32) (b : Fin 32) (k : Fin 1000) :
    scores f cls cb (ix2 b k) = (∑ d : Fin 128, f (ix2 b d) * cls (ix2 d k)) + cb (ix1 k) := by
  pointwise [scores]

/-- The averaged projection at an index: the mean over the cells of the projected features plus bias. -/
theorem root_at (f : FVec Ideal S32x64x64x7x3 .f32) (u : FVec Ideal S21x896 .f32) (bias : FVec Ideal S896 .f32) (b : Fin 32) (d : Fin 128) :
    root f u bias (ix2 b d) = Ideal.div (∑ h : Fin 64, ∑ w : Fin 64, ((∑ r : Fin 21,
        f (ix5 b h w ⟨r.val / 3, by omega⟩ ⟨r.val % 3, by omega⟩) * u (ix2 r ⟨768 + d.val, by omega⟩)) + bias (ix1 ⟨768 + d.val, by omega⟩)))
      (Ideal.ofBits .f32 0x45800000#32) := by
  unfold root
  show Ideal.div (Ideal.hostReduceAdd reducesTo_S32x64x64x128_S32x128_d1_2 _ (Ideal.ofBits .f32 0x00000000#32) _) (Ideal.ofBits .f32 0x45800000#32) = _
  rw [sum_axes_1_2, Ideal.ofBits_zero_f32, zero_add]
  refine congrArg (Ideal.div · _) (Finset.sum_congr rfl fun h _ => Finset.sum_congr rfl fun w _ => ?_)
  pointwise

/-- The divisor word of level `l`, one more binade pair per level, is the number of cells in a block of that level. -/
theorem divisor_word (l : Fin 7) : Ideal.ofBits .f32 (0x3F800000#32 + BitVec.ofNat 32 (l.val * 0x1000000))
    = (((2 ^ l.val : ℕ) * (2 ^ l.val : ℕ) : ℝ) : EReal) := by
  fin_cases l <;> (simp [Ideal.ofBits, Ideal.ieee, -EReal.coe_mul, -EReal.coe_pow]; try norm_num)

/-- The stacked pyramid of a finite image holds, at level `l`, the means of the blocks of side `2 ^ l`. -/
theorem stack_at (v : FVec Ideal S32x64x64x3 .f32) (X : Fin 32 → Fin 3 → Fin 64 → Fin 64 → ℝ)
    (hv : ∀ b h w c, v (ix4 b h w c) = (X b c h w : EReal)) (b : Fin 32) (h w : Fin 64) (l : Fin 7) (c : Fin 3) :
    stack v (ix5 b h w l c) = (blockMean (side_mul l) (X b c) h w : EReal) := by
  pointwise [stack]
  have key := fun (l : Fin 7) => level_at (side_mul l) _ (divisor_word l) v X hv (fits l) b h w c
  fin_cases l
  · exact key 0
  · exact key 1
  · exact key 2
  · exact key 3
  · exact key 4
  · exact key 5
  · exact key 6

end Cert.Proof

end
-- ==== Proof.Bridge.lean ====
/- The kernel's weighted channel totals and the reference's mean of projected cells are one extended real. -/
module

public import proofs.«01_k».proof.Proof.Kernel
public import proofs.«01_k».proof.Proof.Reference

@[expose] public section

set_option maxRecDepth 16384

noncomputable section

namespace Cert.Proof

open Idealize.ShloMosaic

/-- The word the reference divides by is the number of cells. -/
theorem cells_word : Ideal.ofBits .f32 0x45800000#32 = ((4096 : ℝ) : EReal) := by
  simp [Ideal.ofBits, Ideal.ieee, -EReal.coe_mul, -EReal.coe_pow]; norm_num

/-- The word the kernel multiplies by is the cells' reciprocal. -/
theorem share_word : Ideal.ofBits .f32 0x39800000#32 = ((4096⁻¹ : ℝ) : EReal) := by
  simp [Ideal.ofBits, Ideal.ieee, -EReal.coe_mul, -EReal.coe_pow]; norm_num

/-- The 21 features' weighted channel values, gathered by channel. -/
theorem gather (S : Fin 3 → ℝ) (u : Fin 21 → ℝ) : ∑ r : Fin 21, S ⟨r.val % 3, by omega⟩ * u r
    = S 0 * (u 0 + u 3 + u 6 + u 9 + u 12 + u 15 + u 18) + S 1 * (u 1 + u 4 + u 7 + u 10 + u 13 + u 16 + u 19)
      + S 2 * (u 2 + u 5 + u 8 + u 11 + u 14 + u 17 + u 20) := by
  let e : Fin 7 × Fin 3 ≃ Fin 21 := finProdFinEquiv
  have hmod : ∀ (l : Fin 7) (c : Fin 3), (⟨(e (l, c)).val % 3, by omega⟩ : Fin 3) = c := fun l c =>
    Fin.ext (show (c.val + 3 * l.val) % 3 = c.val by omega)
  rw [← e.sum_comp, Fintype.sum_prod_type, Finset.sum_comm]
  simp only [hmod, ← Finset.mul_sum]
  rw [Fin.sum_univ_three]
  simp only [Fin.sum_univ_seven]
  rfl

/-- Over a finite image and finite weights, with any bias, the two expressions for one averaged projection agree. -/
theorem mixed_eq (X : Fin 3 → Fin 64 → Fin 64 → ℝ) (u : Fin 21 → ℝ) (bias : EReal) (T : Fin 3 → EReal)
    (hT : ∀ c, T c = ((∑ h, ∑ w, X c h w : ℝ) : EReal)) :
    mixed (Ideal.ofBits .f32 0x39800000#32) bias (T 0) (T 1) (T 2) (fun r => (u r : EReal))
      = Ideal.div (∑ h : Fin 64, ∑ w : Fin 64, ((∑ r, (feature X h w r : EReal) * (u r : EReal)) + bias)) (Ideal.ofBits .f32 0x45800000#32) := by
  have hsum : ∑ h : Fin 64, ∑ w : Fin 64, ((∑ r, (feature X h w r : EReal) * (u r : EReal)) + bias)
      = ((∑ h, ∑ w, ∑ r, feature X h w r * u r : ℝ) : EReal) + (4096 : ℕ) • bias := by
    simp only [Finset.sum_add_distrib, ← EReal.coe_mul, ← coe_sum, Finset.sum_const, Finset.card_univ, Fintype.card_fin, ← mul_nsmul]
  have hne : ((4096 : ℝ) : EReal) ≠ 0 := by norm_num
  rw [hsum, cells_word, share_word, Ideal.div, if_neg hne, mean_add, sum_features, gather fun c => ∑ h, ∑ w, X c h w]
  unfold mixed
  simp only [hT, ← EReal.coe_mul, ← EReal.coe_add, add_assoc]
  congr 2
  ring

end Cert.Proof

end
-- ==== Proof.Finite.lean ====
/- The precondition, read: the image and the weights' last 128 columns are real numbers. -/
module

public import proofs.«01_k».proof.Pre_finite_image_and_root
public import proofs.«01_k».proof.Proof.Reads

@[expose] public section

set_option maxRecDepth 16384

noncomputable section

namespace Cert.Proof

open Idealize.ShloMosaic Cert.Pre_finite_image_and_root

/-- The side conditions of the predicate's operations hold. -/
theorem pre_facts : Cert.Pre_finite_image_and_root.Facts where
  shapeCasts_S32x3x64x64_S393216 := by decide
  bcast_S_S393216 := by decide
  slices_S21x896_S21x128_0_768 := by decide
  shapeCasts_S21x128_S2688 := by decide
  bcast_S_S2688 := by decide
  concatenates_S393216_S2688_S395904_d0 := by decide

/-- An extended real whose absolute value is below the infinity's word is a real number. -/
theorem real_of_below (a : EReal) (h : BitVec.ofBool (decide (max a (-a) < Ideal.ofBits .f32 0x7F800000#32)) = 1#1) :
    a = ((EReal.toReal a : ℝ) : EReal) := by
  have top : Ideal.ofBits .f32 0x7F800000#32 = ⊤ := by simp [Ideal.ofBits, Ideal.ieee]
  rw [top] at h
  have lt : max a (-a) < ⊤ := by
    by_contra hn
    simp [hn] at h
  refine (EReal.coe_toReal ?_ ?_).symm
  · rintro rfl; simp at lt
  · rintro rfl; simp at lt

variable [Facts] (x : FVec Ideal S32x3x64x64 .f32) (u : FVec Ideal S21x896 .f32) (bias : FVec Ideal S896 .f32) (cls : FVec Ideal S128x1000 .f32)
  (cb : FVec Ideal S1000 .f32)

/-- Where the predicate is all ones, every element of the image is a real number. -/
theorem image_real (h : Cert.Pre_finite_image_and_root.fn x u bias cls cb = fun _ => 1#1) (b : Fin 32) (c : Fin 3) (i j : Fin 64) :
    (x (ix4 b c i j) : EReal) = ((EReal.toReal (x (ix4 b c i j)) : ℝ) : EReal) := by
  have e := congrFun h (ix1 (⟨((b.val * 3 + c.val) * 64 + i.val) * 64 + j.val, by omega⟩ : Fin 395904))
  unfold Cert.Pre_finite_image_and_root.fn at e
  pointwise at e
  rw [dif_pos (by omega)] at e
  exact real_of_below _ e

/-- Where the predicate is all ones, every weight of the last 128 columns is a real number. -/
theorem weight_real (h : Cert.Pre_finite_image_and_root.fn x u bias cls cb = fun _ => 1#1) (r : Fin 21) (d : Fin 128) :
    (u (ix2 r ⟨768 + d.val, by omega⟩) : EReal) = ((EReal.toReal (u (ix2 r ⟨768 + d.val, by omega⟩)) : ℝ) : EReal) := by
  obtain ⟨p, hp⟩ : ∃ p : Fin 395904, p.val = r.val * 128 + d.val + 393216 := ⟨⟨_, by omega⟩, rfl⟩
  have e := congrFun h (ix1 p)
  unfold Cert.Pre_finite_image_and_root.fn at e
  pointwise at e
  rw [dif_neg (by omega)] at e
  have hr : (⟨(p.val - 393216) / 128, by omega⟩ : Fin 21) = r := Fin.ext (show (p.val - 393216) / 128 = r.val by omega)
  have hd : (⟨768 + (p.val - 393216) % 128, by omega⟩ : Fin 896) = ⟨768 + d.val, by omega⟩ :=
    Fin.ext (show 768 + (p.val - 393216) % 128 = 768 + d.val by omega)
  rw [hr, hd] at e
  exact real_of_below _ e

end Cert.Proof

end
-- ==== Proof.Agree.lean ====
/- Where the precondition holds, the kernel's result array and the reference's are one function of the arguments. -/
module

public import proofs.«01_k».proof.Proof.Bridge
public import proofs.«01_k».proof.Proof.Finite

@[expose] public section

set_option maxRecDepth 16384

noncomputable section

namespace Cert.Proof

open Idealize.ShloMosaic Cert.ReferenceIdeal Cert.ReferenceIdeal.Gen

/-- Over a finite image and finite root weights, with any bias and any classifier, the reference's expression has the kernel's value. -/
theorem agree [Cert.Pre_finite_image_and_root.Facts] (x : FVec Ideal S32x3x64x64 .f32) (u : FVec Ideal S21x896 .f32) (bias : FVec Ideal S896 .f32)
    (cls : FVec Ideal S128x1000 .f32) (cb : FVec Ideal S1000 .f32) (h : Cert.Pre_finite_image_and_root.fn x u bias cls cb = fun _ => 1#1) :
    scores (root (stack (transpose S32x64x64x3 [0, 2, 3, 1] x transposes_S32x3x64x64_S32x64x64x3_0_2_3_1)) u bias) cls cb
      = kernelValue x u bias cls cb := by
  let X : Fin 32 → Fin 3 → Fin 64 → Fin 64 → ℝ := fun b c i j => EReal.toReal (x (ix4 b c i j))
  have hX : ∀ b c i j, x (ix4 b c i j) = (X b c i j : EReal) := image_real x u bias cls cb h
  have hv : ∀ b i j c, transpose S32x64x64x3 [0, 2, 3, 1] x transposes_S32x3x64x64_S32x64x64x3_0_2_3_1 (ix4 b i j c) = (X b c i j : EReal) :=
    fun b i j c => by rw [← hX]; pointwise
  funext j
  idx_vars j
  rw [scores_at]
  refine congrArg (· + cb (ix1 j1)) (Finset.sum_congr rfl fun d _ => congrArg (· * cls (ix2 d j1)) ?_)
  have hT : ∀ c, total x j0 c = ((∑ i, ∑ j, X j0 c i j : ℝ) : EReal) := fun c => by simp only [total, hX, coe_sum]
  have hu : ∀ r : Fin 21, u (ix2 r ⟨768 + d.val, by omega⟩) = ((EReal.toReal (u (ix2 r ⟨768 + d.val, by omega⟩)) : ℝ) : EReal) :=
    fun r => weight_real x u bias cls cb h r d
  have key := mixed_eq (X j0) (fun r => EReal.toReal (u (ix2 r ⟨768 + d.val, by omega⟩))) (bias (ix1 ⟨768 + d.val, by omega⟩)) (total x j0) hT
  rw [root_at]
  simp only [stack_at _ X hv]
  simp only [← hu] at key
  exact key.symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import Idealize.ShloMosaic.Lib.Claim
public import Idealize.ShloMosaic.Adequacy
public import Idealize.ShloMosaic.Init

@[expose] public section

noncomputable section

namespace Cert.Proof

open Idealize.ShloMosaic Idealize.SL.Sem

/-- The reference runs from every memory, leaves its arguments unchanged and every counter at zero. -/
theorem reference_frame : Cert.quiescent_ReferenceIdeal (hReferenceIdeal := Cert.ReferenceIdeal.Gen.facts) := by
  intro m g _
  refine θ_run_mono (Cert.ReferenceIdeal.Value.run m g) fun r kept => ⟨fun c => (kept c).2, ?_⟩
  exact sem_eq_zero_of_no_sems (by decide) _

/-- From memories that agree on the arguments and satisfy the precondition, the kernel and the reference end with equal scores. -/
theorem same_scores : Cert.algebraic_KernelIdeal_ReferenceIdeal_pre_finite_image_and_root (hKernelIdeal := Cert.KernelIdeal.Gen.facts)
    (hReferenceIdeal := Cert.ReferenceIdeal.Gen.facts) (hPre_finite_image_and_root := pre_facts) := by
  letI := pre_facts
  pair_intro
  · run_from Cert.KernelIdeal.Value.run_blocks m g
  · run_from Cert.ReferenceIdeal.Value.run m' g'
    obtain ⟨e0, e1, e2, e3, e4⟩ := hagree c
    rw [final_eq]
    refine (result_eq m' c).trans ?_
    rw [e0, e1, e2, e3, e4]
    exact agree _ _ _ _ _ (hpre c)

/-- Every claim of this certificate. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    reference_frame, fun m g _ => reference_frame m g trivial, trivial, same_scores⟩

end Cert.Proof

end
